-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x4096x1024 : Shape := ⟨3, ![4, 4096, 1024]⟩
abbrev S8192x1024 : Shape := ⟨2, ![8192, 1024]⟩
abbrev S1x4096x1024 : Shape := ⟨3, ![1, 4096, 1024]⟩
abbrev S32x32x1024 : Shape := ⟨3, ![32, 32, 1024]⟩
abbrev S32 : Shape := ⟨1, ![32]⟩
abbrev S1 : Shape := ⟨1, ![1]⟩
abbrev S_ : Shape := ⟨0, ![]⟩
abbrev S1x32x1024 : Shape := ⟨3, ![1, 32, 1024]⟩
abbrev S32x1024 : Shape := ⟨2, ![32, 1024]⟩

abbrev nBuf : Table → Nat
  | .hbm => 3
  | .shared => 1
  | _ => 0

abbrev bufTy : (tb : Table) → Fin (nBuf tb) → BufTy
  | .hbm, ⟨0, _⟩ => ⟨S4x4096x1024, .f32⟩
  | .hbm, ⟨1, _⟩ => ⟨S8192x1024, .f32⟩
  | .hbm, ⟨2, _⟩ => ⟨S1x4096x1024, .f32⟩
  | .shared, ⟨0, _⟩ => ⟨S32x32x1024, .f32⟩
  | _, _ => ⟨S4x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 64 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | _ => false

abbrev sig : RefSig :=
  ofTables nBuf rfl bufTy 4 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 2 → Nat :=
  let arg0 : BitVec 32 := BitVec.ofNat 32 (i 0).val
  let c2048_i32 : BitVec 32 := 2048#32
  let v0 : BitVec 32 := Scalar.muli arg0 c2048_i32
  let v1 : BitVec 32 := Scalar.addi v0 c0_i32
  let c0_i32_4 : BitVec 32 := 0#32
  ![v1.toNat, 0]
def k0_off2 (i : grid0.Coords) : Fin 2 → Nat :=
  let arg0 : BitVec 32 := BitVec.ofNat 32 (i 0).val
  let c2048_i32 : BitVec 32 := 2048#32
  let v0 : BitVec 32 := Scalar.muli arg0 c2048_i32
  let c0_i32_73 : BitVec 32 := 0#32
  ![v0.toNat, 0]
def k0_off3 (i : grid0.Coords) (c0_i32_74 : BitVec 32) : Fin 3 → Nat :=
  let c0_i32_76 : BitVec 32 := 0#32
  let arg0 : BitVec 32 := BitVec.ofNat 32 (i 0).val
  let c2048_i32 : BitVec 32 := 2048#32
  let v0 : BitVec 32 := Scalar.muli arg0 c2048_i32
  let v108 : BitVec 32 := Scalar.addi v0 c0_i32_74
  let c0_i32_78 : BitVec 32 := 0#32
  ![0, v108.toNat, 0]
def k0_off4 (i : grid0.Coords) : Fin 3 → Nat :=
  let c0_i32_322 : BitVec 32 := 0#32
  let arg0 : BitVec 32 := BitVec.ofNat 32 (i 0).val
  let c2048_i32 : BitVec 32 := 2048#32
  let v0 : BitVec 32 := Scalar.muli arg0 c2048_i32
  let c0_i32_324 : BitVec 32 := 0#32
  ![0, v0.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x4096x1024 : Shape := ⟨3, ![4, 4096, 1024]⟩
abbrev S8192x1024 : Shape := ⟨2, ![8192, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1024 : Shape := ⟨2, ![4096, 1024]⟩
abbrev S1x4096x1024 : Shape := ⟨3, ![1, 4096, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8192x1024, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S1x1, .i32⟩
  | .hbm, ⟨22, _⟩ => ⟨S4096x1, .i32⟩
  | .hbm, ⟨23, _⟩ => ⟨S4096x1, .i1⟩
  | .hbm, ⟨24, _⟩ => ⟨S4096x1, .i1⟩
  | .hbm, ⟨25, _⟩ => ⟨S_, .i1⟩
  | .hbm, ⟨26, _⟩ => ⟨S4096, .i1⟩
  | .hbm, ⟨27, _⟩ => ⟨S4096x1024, .f32⟩
  | .hbm, ⟨28, _⟩ => ⟨S4096x1024, .i1⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S1x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]
-- ==== Proof.Program.lean ====
/-
  The kernel's body as a list of steps. A step is one of four things done to one piece of the table: start its copy into
  its ring slot, wait for that copy, start the copy of the slot into the result, wait for that one. Piece `j` uses
  slot `j % 32` of the ring and the two semaphores of that slot. The body issues the steps in the order of `sched`.
-/
module

public import proofs.«01_k».proof.Proof.Gen.KernelIdeal

@[expose] public section

noncomputable section

namespace Cert.Proof.Ring

open Cert.KernelIdeal Cert.KernelIdeal.Gen
open Idealize.ShloMosaic Idealize.SL.Sem

variable {F : FTy → Type} [FloatOps F]

/-! ## The slots, the pieces and the semaphores -/

/-- The ring slot piece `j` passes through. -/
def slot (j : Fin 64) : Fin 32 := ⟨j.val % 32, Nat.mod_lt _ (by decide)⟩

theorem inb_slot (s : Fin 32) : ∀ a, (![s.val, 0, 0] : Fin 3 → Nat) a + S1x32x1024.size a ≤ S32x32x1024.size a := by
  revert s; decide
theorem inb_sem (s : Fin 32) : ∀ a, (![s.val] : Fin 1 → Nat) a + S1.size a ≤ S32.size a := by
  revert s; decide

/-- Slot `s` of the ring buffer. -/
abbrev slotM (arg3 : Memref sig .scScalar .shared S32x32x1024 .f32) (s : Fin 32) : Memref sig .scScalar .shared S32x1024 .f32 :=
  (arg3.slice (Rect.unit (s := S32x32x1024) ![s.val, 0, 0] S1x32x1024.size (inb_slot s)) (fun _ => rfl)).squeeze S32x1024 squeezes_S1x32x1024_S32x1024

/-- Semaphore `s` of an array of 32. -/
abbrev semM (A : DmaSems sig S32) (s : Fin 32) : DmaSem sig :=
  ((A.slice (Rect.unit (s := S32) ![s.val] S1.size (inb_sem s))).squeeze S_ squeezes_S1_S_).sem

/-- Piece `j` of the table, at the core's coordinates. -/
abbrev tabM (arg1 : Memref sig .scScalar .hbm S8192x1024 .f32) (i : grid0.Coords) (j : Fin 64) : Memref sig .scScalar .hbm S32x1024 .f32 :=
  arg1.slice (Rect.unit (s := S8192x1024) (k0_off1 i (BitVec.ofNat 32 (32 * j.val))) S32x1024.size (k0_off1_inb i j)) (fun _ => rfl)

/-- Piece `j` of the result, at the core's coordinates. -/
abbrev outM (arg2 : Memref sig .scScalar .hbm S1x4096x1024 .f32) (i : grid0.Coords) (j : Fin 64) : Memref sig .scScalar .hbm S32x1024 .f32 :=
  (arg2.slice (Rect.unit (s := S1x4096x1024) (k0_off3 i (BitVec.ofNat 32 (32 * j.val))) S1x32x1024.size (k0_off3_inb i j)) (fun _ => rfl)).squeeze
    S32x1024 squeezes_S1x32x1024_S32x1024

/-! ## The steps -/

/-- What a step does to its piece. -/
inductive Kind4 | load | landed | store | drained
  deriving DecidableEq

/-- A step: what it does, and to which piece. -/
abbrev Step : Type := Kind4 × Fin 64

/-- One step, as the body spells it. The waits name the table's and the result's first piece for the size only. -/
def step (i : grid0.Coords) (arg1 : Memref sig .scScalar .hbm S8192x1024 .f32) (arg2 : Memref sig .scScalar .hbm S1x4096x1024 .f32)
    (arg3 : Memref sig .scScalar .shared S32x32x1024 .f32) (arg4 arg5 : DmaSems sig S32) :
    Step → Prog (TpuEff nD τ sig (Elt F) Λ₀ (.scScalar ((i 0).castLE hcore0))) PUnit
  | (.load, j) => Prog.lift (.enqueueDma (tabM arg1 i j) (.here (slotM arg3 (slot j))) (.dma (semM arg4 (slot j)))
      (View.wordExact_bits rfl) ((View.wordExact_bits rfl).reshape _ _) ⟨Or.inl rfl, trivial⟩)
  | (.landed, j) => Prog.lift (.waitDma2 (semM arg4 (slot j))
      (arg1.slice (Rect.unit (s := S8192x1024) (k0_off2 i) S32x1024.size (k0_off2_inb i)) (fun _ => rfl)) (slotM arg3 (slot j))
      (View.wordExact_bits rfl) ((View.wordExact_bits rfl).reshape _ _))
  | (.store, j) => Prog.lift (.enqueueDma (slotM arg3 (slot j)) (.here (outM arg2 i j)) (.dma (semM arg5 (slot j)))
      ((View.wordExact_bits rfl).reshape _ _) ((View.wordExact_bits rfl).reshape _ _) ⟨Or.inl rfl, trivial⟩)
  | (.drained, j) => Prog.lift (.waitDma2 (semM arg5 (slot j)) (slotM arg3 (slot j))
      ((arg2.slice (Rect.unit (s := S1x4096x1024) (k0_off4 i) S1x32x1024.size (k0_off4_inb i)) (fun _ => rfl)).squeeze
        S32x1024 squeezes_S1x32x1024_S32x1024)
      ((View.wordExact_bits rfl).reshape _ _) ((View.wordExact_bits rfl).reshape _ _))

/-- A list of steps, one after the other. -/
def steps (i : grid0.Coords) (arg1 : Memref sig .scScalar .hbm S8192x1024 .f32) (arg2 : Memref sig .scScalar .hbm S1x4096x1024 .f32)
    (arg3 : Memref sig .scScalar .shared S32x32x1024 .f32) (arg4 arg5 : DmaSems sig S32) :
    List Step → Prog (TpuEff nD τ sig (Elt F) Λ₀ (.scScalar ((i 0).castLE hcore0))) PUnit
  | [] => pure ⟨⟩
  | x :: l => step i arg1 arg2 arg3 arg4 arg5 x >>= fun _ => steps i arg1 arg2 arg3 arg4 arg5 l

/-- Piece number `n`. -/
def pc (n : ℕ) : Fin 64 := ⟨n % 64, Nat.mod_lt _ (by decide)⟩

/-- The order of the steps: 16 loads ahead; then for each piece, first the piece 16 before it drained and the one 16
    after it loaded, where there is one, then the piece's own landing and store; the last 16 drained at the end. -/
def sched : List Step :=
  (List.range 16).map (fun n => (.load, pc n))
    ++ (List.range 64).flatMap (fun n =>
        (if 16 ≤ n then [(.drained, pc (n - 16))] else [])
          ++ (if n + 16 < 64 then [(.load, pc (n + 16))] else [])
          ++ [(.landed, pc n), (.store, pc n)])
    ++ (List.range 16).map (fun n => (.drained, pc (n + 48)))

set_option maxRecDepth 65536 in
/-- The printed body is the list of steps. -/
theorem body_eq (i : grid0.Coords) (arg1 : Memref sig .scScalar .hbm S8192x1024 .f32) (harg1 : arg1.IsWhole)
    (arg2 : Memref sig .scScalar .hbm S1x4096x1024 .f32) (harg2 : arg2.IsWhole)
    (arg3 : Memref sig .scScalar .shared S32x32x1024 .f32) (harg3 : arg3.IsWhole) (arg4 arg5 : DmaSems sig S32) :
    cc0_copy_k (F := F) i arg1 harg1 arg2 harg2 arg3 harg3 arg4 arg5 = steps i arg1 arg2 arg3 arg4 arg5 sched := rfl

end Cert.Proof.Ring

end
-- ==== Proof.Steps.lean ====
/-
  One step of the body at a time. The state says where each piece of the table stands (untouched, on its way into its
  slot, in its slot, on its way out, delivered) and which slots are free; what the core holds is read off the state. Each
  step takes the state to its `next`, and the list of steps takes it to its `after`.
-/
module

public import proofs.«01_k».proof.Proof.Program
public import Idealize.ShloMosaic.Lib.SparseCore.Quiescent
public import Idealize.ShloMosaic.Lib.Pipeline.Kit
public import Idealize.ShloMosaic.Lib.Tactic
public import Idealize.ShloMosaic.Lib.Ring
public import Idealize.ShloMosaic.Lib.ValueLayout

@[expose] public section

noncomputable section

namespace Cert.Proof.Ring

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resources -/

abbrev UH : Type := URounds (GSem nD τ sig) ℕ
abbrev UU : Type := UH × Counters

local notation "𝕄" => MT nD τ sig (HIx 1) (Elt F) ℕ UU ℕ

abbrev 𝒱₀ : Variants := Variants.none

/-- The table, the result and the ring as the kernel names them. -/
abbrev xW : Memref sig .scScalar .hbm S8192x1024 .f32 := Memref.whole main_arg1_scs
abbrev oW : Memref sig .scScalar .hbm S1x4096x1024 .f32 := Memref.whole main_v0_scs
abbrev bW : Memref sig .scScalar .shared S32x32x1024 .f32 := Memref.whole cc0_scratch0

/-- The table and the result, device `d`'s. -/
abbrev xLoc (d : Dev nD) : Loc nD τ sig := (SparseCore.T d).loc main_arg1
abbrev oLoc (d : Dev nD) : Loc nD τ sig := (SparseCore.T d).loc main_v0

/-- SparseCore `c`'s grid coordinates, and its sequencer's thread. -/
abbrev ci (c : Fin (grid0.bound 0)) : grid0.Coords := fun | 0 => c | ⟨_ + 1, h⟩ => absurd h (Nat.not_lt.2 (Nat.le_add_left _ _))
abbrev th (d : Dev nD) (c : Fin (grid0.bound 0)) : Thread nD τ := S d (c.castLE hcore0)

variable (m : (ℓ : Loc nD τ sig) → Buf (Elt F) ℓ) (d : Dev nD) (c : Fin (grid0.bound 0))

/-- The result the kernel computes: row `r` of the one block is row `r` of the table. -/
def G : Buf (Elt F) (oLoc d) := fun k : S1x4096x1024.Idx =>
  m (xLoc d) (ValueIdx.ix2 (n0 := 8192) (n1 := 1024) ⟨(k 1).val, Nat.lt_trans (k 1).isLt (show 4096 < 8192 by decide)⟩ (k 2))

/-- Piece `j` of the table, at the launch contents; of the result, at `f`; slot `s` of the ring, at `f`. -/
abbrev tabS (j : Fin 64) : sProp 𝕄 := (tabM xW (ci c) j).view.loc (th d c) ↦[(tabM xW (ci c) j).view.set]{fullShare} m (xLoc d)
abbrev outS (j : Fin 64) (f : Buf (Elt F) (oLoc d)) : sProp 𝕄 := (outM oW (ci c) j).view.loc (th d c) ↦[(outM oW (ci c) j).view.set]{fullShare} f
abbrev bufLoc : Loc nD τ sig := (th d c).loc cc0_scratch0
abbrev bufS (s : Fin 32) (f : Buf (Elt F) (bufLoc d c)) : sProp 𝕄 := (slotM bW s).view.loc (th d c) ↦[(slotM bW s).view.set]{fullShare} f

/-- The semaphores of slot `s`: of the copies in and of the copies out. -/
abbrev inC (s : Fin 32) : SemLoc sig := .dma (semM cc0_scratch1 s)
abbrev outC (s : Fin 32) : SemLoc sig := .dma (semM cc0_scratch2 s)

/-- Slot `j % 32` holds piece `j` of the table. -/
def Held (j : Fin 64) : sProp 𝕄 :=
  iprop(∃ f, ⌜(slotM bW (slot j)).view.read (Elt F) f = (tabM xW (ci c) j).view.read (Elt F) (m (xLoc d))⌝ ∗ bufS d c (slot j) f)

/-- Where a piece stands. -/
inductive Phase | fresh | loading | landed | storing | done
  deriving DecidableEq

/-- What the core holds for a piece: its two ends, and from load to drain also its slot and the slot's two semaphores. -/
def Piece (j : Fin 64) : Phase → sProp 𝕄
  | .fresh => iprop(tabS m d c j ∗ ∃ f, outS d c j f)
  | .loading => iprop(Transfers.Flight countersEmb (th d c) (inC (slot j)) (none : HIx 1) ((slotM bW (slot j)).view.dmaCredit) iprop(Held m d c j ∗ tabS m d c j)
      ∗ semVal (th d c, outC (slot j)) 0 ∗ ∃ f, outS d c j f)
  | .landed => iprop(Held m d c j ∗ tabS m d c j ∗ semVal (th d c, inC (slot j)) 0 ∗ semVal (th d c, outC (slot j)) 0 ∗ ∃ f, outS d c j f)
  | .storing => iprop(Transfers.Flight countersEmb (th d c) (outC (slot j)) (none : HIx 1) ((outM oW (ci c) j).view.dmaCredit)
        iprop(outS d c j (G m d) ∗ ∃ f, bufS d c (slot j) f)
      ∗ semVal (th d c, inC (slot j)) 0 ∗ tabS m d c j)
  | .done => iprop(tabS m d c j ∗ outS d c j (G m d))

/-- What the core holds for a slot: the slot and its two semaphores at zero when it is free, nothing otherwise. -/
def Slot (s : Fin 32) : Bool → sProp 𝕄
  | true => iprop((∃ f, bufS d c s f) ∗ semVal (th d c, inC s) 0 ∗ semVal (th d c, outC s) 0)
  | false => iprop(emp)

/-- The state: each piece's phase, and whether each slot is free. -/
structure State where
  ph : Fin 64 → Phase
  free : Fin 32 → Bool

def Inv (σ : State) : sProp 𝕄 :=
  iprop((bigSep Finset.univ fun j => Piece m d c j (σ.ph j)) ∗ bigSep Finset.univ fun s => Slot (F := F) d c s (σ.free s))

/-- The state after a step, where the step is in order. -/
def next : Step → State → Option State
  | (.load, j), σ => if σ.ph j = .fresh ∧ σ.free (slot j) = true then
      some ⟨Function.update σ.ph j .loading, Function.update σ.free (slot j) false⟩ else none
  | (.landed, j), σ => if σ.ph j = .loading then some ⟨Function.update σ.ph j .landed, σ.free⟩ else none
  | (.store, j), σ => if σ.ph j = .landed then some ⟨Function.update σ.ph j .storing, σ.free⟩ else none
  | (.drained, j), σ => if σ.ph j = .storing then
      some ⟨Function.update σ.ph j .done, Function.update σ.free (slot j) true⟩ else none

/-- The state after a list of steps. -/
def after : List Step → State → Option State
  | [], σ => some σ
  | x :: l, σ => (next x σ).bind (after l)

/-! ## What the two copies deliver -/

/-- A slot written with piece `j` of the table holds it. -/
theorem landed_held (j : Fin 64) (f : Buf (Elt F) (bufLoc d c)) :
    iprop((bufS d c (slot j) ((slotM bW (slot j)).view.write (Elt F) f ((ReadAs.same (Val := Elt F)).apply ((tabM xW (ci c) j).view.read (Elt F) (m (xLoc d)))) Finset.univ))
        ∗ tabS m d c j)
      ⊢ iprop(Held m d c j ∗ tabS m d c j) := by
  unfold Held
  iintro ⟨Hb, Ht⟩
  isplitl [Hb]
  · iexists ((slotM bW (slot j)).view.write (Elt F) f ((tabM xW (ci c) j).view.read (Elt F) (m (xLoc d))) Finset.univ)
    isplitr
    · ipureintro; exact View.read_write_univ _ _
    · iexact Hb
  · iexact Ht

/-- Piece `j` of the result written with piece `j` of the table is the result there. -/
theorem store_value (j : Fin 64) (fo : Buf (Elt F) (oLoc d)) :
    ∀ k ∈ (outM oW (ci c) j).view.set,
      (outM oW (ci c) j).view.write (Elt F) fo ((tabM xW (ci c) j).view.read (Elt F) (m (xLoc d))) Finset.univ k = G m d k := by
  intro k hk
  obtain ⟨x, -, rfl⟩ := Finset.mem_map.mp hk
  rw [View.write_emb_of_mem _ _ (Finset.mem_univ x), View.read_apply]
  show m (xLoc d) _ = m (xLoc d) _
  obtain ⟨a, b, rfl⟩ : ∃ (a : Fin 32) (b : Fin 1024), x = ValueIdx.ix2 a b := ⟨x 0, x 1, ValueIdx.eq_ix2 x⟩
  have h1 : (tabM xW (ci c) j).view.emb (ValueIdx.ix2 a b)
      = (Rect.unit (s := S8192x1024) (k0_off1 (ci c) (BitVec.ofNat 32 (32 * j.val))) S32x1024.size (k0_off1_inb (ci c) j)).emb (ValueIdx.ix2 a b) := rfl
  have h3 : (outM oW (ci c) j).view.emb (ValueIdx.ix2 a b)
      = (Rect.unit (s := S1x4096x1024) (k0_off3 (ci c) (BitVec.ofNat 32 (32 * j.val))) S1x32x1024.size (k0_off3_inb (ci c) j)).emb
          (Shape.reshapeEquiv (show S32x1024.numel = S1x32x1024.numel by decide) (ValueIdx.ix2 a b)) := rfl
  rw [h1, h3, ValueIdx.reshapeEquiv_ix2_1ab]
  refine congrArg (m (xLoc d)) (funext fun e => Fin.ext ?_)
  match e with
  | ⟨0, _⟩ =>
    show k0_off1 (ci c) (BitVec.ofNat 32 (32 * j.val)) 0 + 1 * a.val = k0_off3 (ci c) (BitVec.ofNat 32 (32 * j.val)) 1 + 1 * a.val
    rw [k0_off1_eq, k0_off3_eq]; rfl
  | ⟨1, _⟩ =>
    show k0_off1 (ci c) (BitVec.ofNat 32 (32 * j.val)) 1 + 1 * b.val = k0_off3 (ci c) (BitVec.ofNat 32 (32 * j.val)) 2 + 1 * b.val
    rw [k0_off1_eq, k0_off3_eq]; rfl

theorem stored_out (j : Fin 64) (fo : Buf (Elt F) (oLoc d)) (fb : Buf (Elt F) (bufLoc d c))
    (h : (slotM bW (slot j)).view.read (Elt F) fb = (tabM xW (ci c) j).view.read (Elt F) (m (xLoc d))) :
    iprop((outS d c j ((outM oW (ci c) j).view.write (Elt F) fo ((ReadAs.same (Val := Elt F)).apply ((slotM bW (slot j)).view.read (Elt F) fb)) Finset.univ))
        ∗ bufS d c (slot j) fb)
      ⊢ iprop(outS d c j (G m d) ∗ ∃ f, bufS d c (slot j) f) := by
  rw [ReadAs.apply_same, h]
  iintro ⟨Ho, Hb⟩
  isplitl [Ho]
  · iapply (Entails.of_eq (pointsTo_congr (store_value m d c j fo))); iexact Ho
  · iexists fb; iexact Hb

/-! ## One step -/

variable [FloatOps F]

/-- What the core owes, at some record of its waits. -/
abbrev Ow (O : CellTallies nD τ sig (HIx 1)) : sProp 𝕄 := iprop(∃ W, owes (th d c) O W)

abbrev stepAt (x : Step) := step (F := F) (ci c) xW oW bW cc0_scratch1 cc0_scratch2 x

theorem numel_pos : 0 < S32x1024.numel := by decide

/-- A load: the piece untouched and its slot free. -/
theorem wp_load (j : Fin 64) (Q : PUnit → sProp 𝕄) :
    iprop(Piece m d c j .fresh ∗ Slot d c (slot j) true ∗ (Piece m d c j .loading -∗ Q ⟨⟩))
      ⊢ wp frame (wpE (defs₀ (F := F)) 𝒱₀ (th d c) none) Set.univ (stepAt c (.load, j)) Q := by
  unfold Piece Slot
  iintro ⟨⟨Ht, Ho⟩, ⟨⟨%f, Hb⟩, Hi, Hs⟩, HQ⟩
  iapply (Transfers.wp_dmaLocal countersEmb 𝒱₀ (th d c) none (none : HIx 1) ((slotM bW (slot j)).view.dmaCredit) rfl
    (View.amount_pos _ (inC (slot j)) numel_pos) (Finset.Subset.refl _)) $$ [Ht Hb Hi]
  · isplitl [Ht]; · iexact Ht
    isplitl [Hb]; · iexact Hb
    iexact Hi
  iintro Hfl
  rw [wp_ret]; imodintro
  iapply HQ
  isplitl [Hfl]
  · iapply (Transfers.Flight_mono countersEmb _ (landed_held m d c j f)); iexact Hfl
  isplitl [Hs] <;> iassumption

/-- A landing: the slot holds the piece. -/
theorem wp_landed (j : Fin 64) (O : CellTallies nD τ sig (HIx 1)) (Q : PUnit → sProp 𝕄) :
    iprop(Transfers.MayWaits (th d c) (none : HIx 1) O ∗ Piece m d c j .loading ∗ Ow d c O ∗ ((Piece m d c j .landed ∗ Ow d c O) -∗ Q ⟨⟩))
      ⊢ wp frame (wpE (defs₀ (F := F)) 𝒱₀ (th d c) none) Set.univ (stepAt c (.landed, j)) Q := by
  unfold Piece
  iintro ⟨Hmw, ⟨Hfl, Hs, Ho⟩, ⟨%W, HO⟩, HQ⟩
  iapply (Transfers.wp_waitLocalO countersEmb 𝒱₀ (th d c) none (none : HIx 1) rfl) $$ [Hmw Hfl HO]
  · isplitl [Hfl]; · iexact Hfl
    isplitl [HO]; · iexact HO
    iapply (Transfers.MayWaits.elim (inC (slot j))); iexact Hmw
  iintro ⟨⟨Hh, Ht⟩, Hi, HO⟩
  rw [wp_ret]; imodintro
  iapply HQ
  isplitr [HO]
  · isplitl [Hh]; · iexact Hh
    isplitl [Ht]; · iexact Ht
    isplitl [Hi]; · iexact Hi
    isplitl [Hs] <;> iassumption
  · iexists _; iexact HO

/-- A store of the piece held. -/
theorem wp_store (j : Fin 64) (Q : PUnit → sProp 𝕄) :
    iprop(Piece m d c j .landed ∗ (Piece m d c j .storing -∗ Q ⟨⟩))
      ⊢ wp frame (wpE (defs₀ (F := F)) 𝒱₀ (th d c) none) Set.univ (stepAt c (.store, j)) Q := by
  unfold Piece Held
  iintro ⟨⟨⟨%fb, %hfb, Hb⟩, Ht, Hi, Hs, ⟨%fo, Ho⟩⟩, HQ⟩
  iapply (Transfers.wp_dmaLocal countersEmb 𝒱₀ (th d c) none (none : HIx 1) ((outM oW (ci c) j).view.dmaCredit) rfl
    (View.amount_pos _ (outC (slot j)) numel_pos) (Finset.Subset.refl _)) $$ [Hb Ho Hs]
  · isplitl [Hb]; · iexact Hb
    isplitl [Ho]; · iexact Ho
    iexact Hs
  iintro Hfl
  rw [wp_ret]; imodintro
  iapply HQ
  isplitl [Hfl]
  · iapply (Transfers.Flight_mono countersEmb _ (stored_out m d c j fo fb hfb)); iexact Hfl
  isplitl [Hi] <;> iassumption

/-- A drain: the piece delivered and its slot free. -/
theorem wp_drained (j : Fin 64) (O : CellTallies nD τ sig (HIx 1)) (Q : PUnit → sProp 𝕄) :
    iprop(Transfers.MayWaits (th d c) (none : HIx 1) O ∗ Piece m d c j .storing ∗ Ow d c O
        ∗ ((Piece m d c j .done ∗ Slot d c (slot j) true ∗ Ow d c O) -∗ Q ⟨⟩))
      ⊢ wp frame (wpE (defs₀ (F := F)) 𝒱₀ (th d c) none) Set.univ (stepAt c (.drained, j)) Q := by
  unfold Piece Slot
  iintro ⟨Hmw, ⟨Hfl, Hi, Ht⟩, ⟨%W, HO⟩, HQ⟩
  iapply (Transfers.wp_waitLocalO countersEmb 𝒱₀ (th d c) none (none : HIx 1) rfl) $$ [Hmw Hfl HO]
  · isplitl [Hfl]; · iexact Hfl
    isplitl [HO]; · iexact HO
    iapply (Transfers.MayWaits.elim (outC (slot j))); iexact Hmw
  iintro ⟨⟨Ho, Hb⟩, Hs, HO⟩
  rw [wp_ret]; imodintro
  iapply HQ
  isplitl [Ht Ho]; · isplitl [Ht] <;> iassumption
  isplitr [HO]
  · isplitl [Hb]; · iexact Hb
    isplitl [Hi] <;> iassumption
  · iexists _; iexact HO

/-- A step that is in order takes the core from its state to the next. -/
theorem wp_step (x : Step) (σ σ' : State) (h : next x σ = some σ') (O : CellTallies nD τ sig (HIx 1)) (Q : PUnit → sProp 𝕄) :
    iprop(Transfers.MayWaits (th d c) (none : HIx 1) O ∗ Inv m d c σ ∗ Ow d c O ∗ ((Inv m d c σ' ∗ Ow d c O) -∗ Q ⟨⟩))
      ⊢ wp frame (wpE (defs₀ (F := F)) 𝒱₀ (th d c) none) Set.univ (stepAt c x) Q := by
  obtain ⟨k, j⟩ := x
  unfold Inv
  iintro ⟨#Hmw, ⟨HP, HS⟩, HO, HQ⟩
  ihave HP' := (bigSep_univ_turn (fun j p => Piece m d c j p) σ.ph j) $$ HP
  icases HP' with ⟨Hp, HP⟩
  cases k with
  | load =>
    simp only [next] at h
    split at h
    · rename_i hx
      obtain rfl := Option.some.inj h
      ihave HS' := (bigSep_univ_turn (fun s b => Slot (F := F) d c s b) σ.free (slot j)) $$ HS
      icases HS' with ⟨Hs, HS⟩
      rw [hx.1, hx.2]
      iapply (wp_load m d c j Q)
      isplitl [Hp]; · iexact Hp
      isplitl [Hs]; · iexact Hs
      iintro Hp
      iapply HQ
      isplitr [HO]
      · isplitl [HP Hp]
        · iapply HP; iexact Hp
        · iapply HS; unfold Slot; iempintro
      · iexact HO
    · cases h
  | landed =>
    simp only [next] at h
    split at h
    · rename_i hx
      obtain rfl := Option.some.inj h
      rw [hx]
      iapply (wp_landed m d c j O Q)
      isplitr; · iexact Hmw
      isplitl [Hp]; · iexact Hp
      isplitl [HO]; · iexact HO
      iintro ⟨Hp, HO⟩
      iapply HQ
      isplitr [HO]
      · isplitl [HP Hp]
        · iapply HP; iexact Hp
        · iexact HS
      · iexact HO
    · cases h
  | store =>
    simp only [next] at h
    split at h
    · rename_i hx
      obtain rfl := Option.some.inj h
      rw [hx]
      iapply (wp_store m d c j Q)
      isplitl [Hp]; · iexact Hp
      iintro Hp
      iapply HQ
      isplitr [HO]
      · isplitl [HP Hp]
        · iapply HP; iexact Hp
        · iexact HS
      · iexact HO
    · cases h
  | drained =>
    simp only [next] at h
    split at h
    · rename_i hx
      obtain rfl := Option.some.inj h
      ihave HS' := (bigSep_univ_turn (fun s b => Slot (F := F) d c s b) σ.free (slot j)) $$ HS
      icases HS' with ⟨Hs0, HS⟩
      rw [hx]
      iapply (wp_drained m d c j O Q)
      isplitr; · iexact Hmw
      isplitl [Hp]; · iexact Hp
      isplitl [HO]; · iexact HO
      iintro ⟨Hp, Hs, HO⟩
      iapply HQ
      isplitr [HO]
      · isplitl [HP Hp]
        · iapply HP; iexact Hp
        · iapply HS; iexact Hs
      · iexact HO
    · cases h

/-- A list of steps that is in order takes the core from its state to the one after it. -/
theorem wp_steps (O : CellTallies nD τ sig (HIx 1)) (Q : PUnit → sProp 𝕄) (l : List Step) (σ σ' : State) (h : after l σ = some σ') :
    iprop(Transfers.MayWaits (th d c) (none : HIx 1) O ∗ Inv m d c σ ∗ Ow d c O ∗ ((Inv m d c σ' ∗ Ow d c O) -∗ Q ⟨⟩))
      ⊢ wp frame (wpE (defs₀ (F := F)) 𝒱₀ (th d c) none) Set.univ (steps (ci c) xW oW bW cc0_scratch1 cc0_scratch2 l) Q := by
  induction l generalizing σ with
  | nil =>
    obtain rfl := Option.some.inj h
    simp only [steps, wp_pure]
    iintro ⟨-, HI, HO, HQ⟩
    imodintro
    iapply HQ
    isplitl [HI] <;> iassumption
  | cons x l ih =>
    obtain ⟨σ₁, h₁, h₂⟩ := Option.bind_eq_some_iff.mp h
    simp only [steps, wp_bind]
    iintro ⟨#Hmw, HI, HO, HQ⟩
    iapply (wp_step m d c x σ σ₁ h₁ O _)
    isplitr; · iexact Hmw
    isplitl [HI]; · iexact HI
    isplitl [HO]; · iexact HO
    iintro ⟨HI, HO⟩
    iapply (ih σ₁ h₂)
    isplitr; · iexact Hmw
    isplitl [HI]; · iexact HI
    isplitl [HO]; · iexact HO
    iexact HQ

/-! ## The body's order is in order -/

/-- At the start every piece is untouched and every slot free; at the end every piece is delivered and every slot free. -/
def start : State := ⟨fun _ => .fresh, fun _ => true⟩
def finish : State := ⟨fun _ => .done, fun _ => true⟩

/-- Whether a list of steps was in order and left every piece delivered and every slot free. -/
def finished : Option State → Bool
  | some σ => decide (∀ j, σ.ph j = .done) && decide (∀ s, σ.free s = true)
  | none => false

theorem eq_finish : ∀ o : Option State, finished o = true → o = some finish
  | some ⟨ph, free⟩, h => by
    have h' := Bool.and_eq_true_iff.mp h
    exact congrArg some (congrArg₂ State.mk (funext (of_decide_eq_true h'.1)) (funext (of_decide_eq_true h'.2)))

theorem after_sched : after sched start = some finish := eq_finish _ (by decide +kernel)

end Cert.Proof.Ring

end
-- ==== Proof.Launch.lean ====
/-
  The whole run. The TensorCore hands each SparseCore its 64 pieces of the table and of the result and keeps the rest of
  the table; each sequencer runs the list of steps over its shared ring; the TensorCore puts the pieces that come back
  together: the table as it was, the result at `G`. The launch theorem then gives the run of the program.
-/
module

public import proofs.«01_k».proof.Defs
public import proofs.«01_k».proof.Proof.Steps
public import Idealize.ShloMosaic.Lib.StableHlo.Run

@[expose] public section

noncomputable section

namespace Cert.Proof.Ring

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The pieces and the slots: apart from one another, and what they cover -/

/-- A core's number and a piece's number. -/
abbrev CJ : Type := Fin (grid0.bound 0) × Fin 64

abbrev tabK (p : CJ) : Finset S8192x1024.Idx := (tabM xW (ci p.1) p.2).view.set
abbrev outK (p : CJ) : Finset S1x4096x1024.Idx := (outM oW (ci p.1) p.2).view.set
abbrev bufK (s : Fin 32) : Finset S32x32x1024.Idx := (slotM bW s).view.set

/-- Core `c`'s piece `j` of the table is rows `2048 c + 32 j` to `2048 c + 32 j + 31`. -/
theorem mem_tabK (p : CJ) (k : S8192x1024.Idx) :
    k ∈ tabK p ↔ 2048 * p.1.val + 32 * p.2.val ≤ (k 0).val ∧ (k 0).val < 2048 * p.1.val + 32 * p.2.val + 32 := by
  rw [show tabK p = (Rect.unit (s := S8192x1024) (k0_off1 (ci p.1) (BitVec.ofNat 32 (32 * p.2.val))) S32x1024.size (k0_off1_inb (ci p.1) p.2)).set from
    View.set_slice_whole _ _, Rect.mem_set_unit]
  simp only [k0_off1_eq]
  have h1 : (k 1).val < 1024 := (k 1).isLt
  constructor
  · intro h; exact h 0
  · intro h a
    match a with
    | ⟨0, _⟩ => exact h
    | ⟨1, _⟩ => exact ⟨Nat.zero_le _, (Nat.zero_add _).symm ▸ h1⟩

/-- Core `c`'s piece `j` of the result is the same rows of the one block. -/
theorem mem_outK (p : CJ) (k : S1x4096x1024.Idx) :
    k ∈ outK p ↔ 2048 * p.1.val + 32 * p.2.val ≤ (k 1).val ∧ (k 1).val < 2048 * p.1.val + 32 * p.2.val + 32 := by
  rw [show outK p = (Rect.unit (s := S1x4096x1024) (k0_off3 (ci p.1) (BitVec.ofNat 32 (32 * p.2.val))) S1x32x1024.size (k0_off3_inb (ci p.1) p.2)).set by
    simp only [outK, outM, Memref.view_squeeze, View.set_reshape]; exact View.set_slice_whole _ _, Rect.mem_set_unit]
  simp only [k0_off3_eq]
  have h0 : (k 0).val < 1 := (k 0).isLt
  have h2 : (k 2).val < 1024 := (k 2).isLt
  constructor
  · intro h; exact h 1
  · intro h a
    match a with
    | ⟨0, _⟩ => exact ⟨Nat.zero_le _, (Nat.zero_add _).symm ▸ h0⟩
    | ⟨1, _⟩ => exact h
    | ⟨2, _⟩ => exact ⟨Nat.zero_le _, (Nat.zero_add _).symm ▸ h2⟩

/-- Different pieces have no row in common. -/
theorem rows_apart {p p' : CJ} (h : p ≠ p') {r : ℕ} (h₁ : 2048 * p.1.val + 32 * p.2.val ≤ r ∧ r < 2048 * p.1.val + 32 * p.2.val + 32)
    (h₂ : 2048 * p'.1.val + 32 * p'.2.val ≤ r ∧ r < 2048 * p'.1.val + 32 * p'.2.val + 32) : False := by
  have a := p.2.isLt; have b := p'.2.isLt
  exact h (Prod.ext (Fin.ext (by omega)) (Fin.ext (by omega)))

theorem tab_disjoint (p p' : CJ) (h : p ≠ p') : Disjoint (tabK p) (tabK p') :=
  Finset.disjoint_left.mpr fun k hk hk' => rows_apart h ((mem_tabK p k).mp hk) ((mem_tabK p' k).mp hk')
theorem out_disjoint (p p' : CJ) (h : p ≠ p') : Disjoint (outK p) (outK p') :=
  Finset.disjoint_left.mpr fun k hk hk' => rows_apart h ((mem_outK p k).mp hk) ((mem_outK p' k).mp hk')
theorem out_cover : Finset.univ.biUnion outK = Finset.univ := by
  ext k
  simp only [Finset.mem_biUnion, Finset.mem_univ, true_and, iff_true]
  have hk : (k 1).val < 4096 := (k 1).isLt
  exact ⟨(⟨(k 1).val / 2048, show _ < 2 by omega⟩, ⟨(k 1).val % 2048 / 32, by omega⟩), (mem_outK _ k).mpr (by
    show 2048 * ((k 1).val / 2048) + 32 * ((k 1).val % 2048 / 32) ≤ (k 1).val
      ∧ (k 1).val < 2048 * ((k 1).val / 2048) + 32 * ((k 1).val % 2048 / 32) + 32
    omega)⟩

theorem bufK_eq (s : Fin 32) : bufK s = (Rect.unit (s := S32x32x1024) ![s.val, 0, 0] S1x32x1024.size (inb_slot s)).set := by
  simp only [bufK, slotM, Memref.view_squeeze, View.set_reshape]; exact View.set_slice_whole _ _
theorem buf_disjoint (s s' : Fin 32) (h : s ≠ s') : Disjoint (bufK s) (bufK s') := by
  rw [bufK_eq, bufK_eq]
  exact Ring.lead_disjoint (s := S32x32x1024) (0 : Fin 3) 1 (fun j : Fin 32 => (![j.val, 0, 0] : Fin 3 → Nat)) S1x32x1024.size inb_slot (fun j => by simp) rfl s s' h
theorem buf_cover : Finset.univ.biUnion bufK = Finset.univ := by
  rw [show bufK = fun s => _ from funext bufK_eq]
  exact Ring.lead_cover (s := S32x32x1024) (0 : Fin 3) 1 (fun j : Fin 32 => (![j.val, 0, 0] : Fin 3 → Nat)) S1x32x1024.size inb_slot (fun j => by simp)
    (fun j a ha => by fin_cases a <;> first | exact absurd rfl ha | rfl) rfl (fun a ha => by fin_cases a <;> first | exact absurd rfl ha | rfl) rfl

/-! ## The arrays, the ring and the semaphores, whole and in pieces -/

variable (m : (ℓ : Loc nD τ sig) → Buf (Elt F) ℓ) (ρ : Dev nD → PrngReg) (d : Dev nD)

theorem sep_split {I : Type} (s : Finset I) (Φ Ψ : I → sProp 𝕄) : (bigSep s fun i => iprop(Φ i ∗ Ψ i)) ⊢ iprop(bigSep s Φ ∗ bigSep s Ψ) :=
  Entails.of_eq (bigSep_sep s Φ Ψ)
theorem sep_join {I : Type} (s : Finset I) (Φ Ψ : I → sProp 𝕄) : iprop(bigSep s Φ ∗ bigSep s Ψ) ⊢ bigSep s fun i => iprop(Φ i ∗ Ψ i) :=
  Entails.of_eq (bigSep_sep s Φ Ψ).symm

/-- The rows of the table no piece reads. -/
abbrev restS : sProp 𝕄 := xLoc d ↦[Finset.univ \ Finset.univ.biUnion tabK]{fullShare} m (xLoc d)

theorem tab_piece (p : CJ) : tabS m d p.1 p.2 = (xLoc d ↦[tabK p]{fullShare} m (xLoc d) : sProp 𝕄) := rfl
theorem out_piece (p : CJ) (f : Buf (Elt F) (oLoc d)) : outS d p.1 p.2 f = (oLoc d ↦[outK p]{fullShare} f : sProp 𝕄) := rfl
theorem buf_piece (c : Fin (grid0.bound 0)) (s : Fin 32) (f : Buf (Elt F) (bufLoc d c)) :
    bufS d c s f = (bufLoc d c ↦[bufK s]{fullShare} f : sProp 𝕄) := rfl

theorem tab_pieces :
    (xLoc d ↦[Finset.univ.biUnion tabK]{fullShare} m (xLoc d) : sProp 𝕄)
      = bigSep Finset.univ fun c : Fin (grid0.bound 0) => bigSep Finset.univ fun j => tabS m d c j := by
  have h := pointsTo_biUnion (U := UU) (Name := ℕ) (Ix := HIx 1) (Lvl := ℕ) (ℓ := xLoc d) (q := fullShare) (f := m (xLoc d)) (Finset.univ : Finset CJ) tabK
    fun p _ p' _ h => tab_disjoint p p' h
  rw [h, bigSep_congr (Ψ := fun p : CJ => tabS m d p.1 p.2) fun p _ => (tab_piece m d p).symm, bigSep_univ_prod]

theorem out_pieces (f : Buf (Elt F) (oLoc d)) :
    (oLoc d ↦{fullShare} f : sProp 𝕄) = bigSep Finset.univ fun c : Fin (grid0.bound 0) => bigSep Finset.univ fun j => outS d c j f := by
  have h := pointsTo_biUnion (U := UU) (Name := ℕ) (Ix := HIx 1) (Lvl := ℕ) (ℓ := oLoc d) (q := fullShare) (f := f) (Finset.univ : Finset CJ) outK
    fun p _ p' _ h => out_disjoint p p' h
  rw [out_cover] at h
  rw [h, bigSep_congr (Ψ := fun p : CJ => outS d p.1 p.2 f) fun p _ => (out_piece d p f).symm, bigSep_univ_prod]

theorem buf_split (c : Fin (grid0.bound 0)) :
    iprop(∃ f, bufLoc d c ↦{fullShare} f) ⊢ (bigSep Finset.univ fun s => iprop(∃ f, bufS d c s f) : sProp 𝕄) := by
  iintro ⟨%f, H⟩
  ihave H' := (Entails.of_eq (Ring.pointsTo_sub_blocks (U := UU) (ℓ := bufLoc d c) bufK buf_disjoint Finset.univ buf_cover (q := fullShare) f)) $$ H
  have one (s : Fin 32) : (bufS d c s f : sProp 𝕄) ⊢ iprop(∃ f, bufS d c s f) := by iintro H; iexists f; iexact H
  have h : (bigSep Finset.univ fun s => bufS d c s f : sProp 𝕄) ⊢ bigSep Finset.univ fun s => iprop(∃ f, bufS d c s f) :=
    bigSep_mono fun s _ => one s
  iapply h
  iexact H'

theorem buf_join (m : (ℓ : Loc nD τ sig) → Buf (Elt F) ℓ) (d : Dev nD) (c : Fin (grid0.bound 0)) :
    (bigSep Finset.univ fun s => iprop(∃ f, bufS d c s f) : sProp 𝕄) ⊢ iprop(∃ f, bufLoc d c ↦{fullShare} f) :=
  Ring.pointsTo_sub_blocks_join_exists (U := UU) (ℓ := bufLoc d c) bufK buf_disjoint Finset.univ buf_cover (q := fullShare) (m (bufLoc d c))

/-- A slot's two semaphores, by number: 0 the copies in, 1 the copies out. -/
def cell (p : Fin 32 × Fin 2) : SemLoc sig := if p.2 = 0 then inC p.1 else outC p.1

theorem cell_scoped : ∀ p, (cell p).isScoped .scScalar = true := by decide +kernel
theorem cell_inj : ∀ p p', cell p = cell p' → p = p' := by decide +kernel

theorem sems_split (c : Fin (grid0.bound 0)) :
    (ownSems0 (th d c) : sProp 𝕄)
      = iprop((bigSep Finset.univ fun s => iprop(semVal (th d c, inC s) 0 ∗ semVal (th d c, outC s) 0))
          ∗ bigSep ((ownCells (th d c)) \ Finset.univ.image fun p => ((th d c, cell p) : GSem nD τ sig)) fun g => semVal g 0) := by
  unfold SparseCore.Cfg.ownSems0
  rw [SparseCore.bigSep_sdiff_split' (t := Finset.univ.image fun p => ((th d c, cell p) : GSem nD τ sig))
      (Finset.image_subset_iff.mpr fun p _ => mem_ownCells.mpr ⟨rfl, cell_scoped p⟩),
    SparseCore.bigSep_image_of_injOn (fun a _ b _ h => cell_inj a b (congrArg (fun g : GSem nD τ sig => g.2) h)), bigSep_univ_prod]
  exact congrArg (fun X => BI.sep X _) (bigSep_congr fun s _ => bigSep_fin_two _)

theorem bufs_split (c : Fin (grid0.bound 0)) :
    (ownBufs (th d c) : sProp 𝕄)
      = iprop((∃ f, bufLoc d c ↦{fullShare} f)
          ∗ bigSep ((ownRefs (τ := τ) (.scScalar (c.castLE hcore0))).erase ((Proc.scScalar (c.castLE hcore0)).devRef cc0_scratch0)) fun b => iprop(∃ f, ((d, b) : Loc nD τ sig) ↦{fullShare} f)) := by
  unfold SparseCore.Cfg.ownBufs
  exact SparseCore.bigSep_erase' ((mem_ownRefs (p := Proc.scScalar (c.castLE hcore0)) (b := (Proc.scScalar (c.castLE hcore0)).devRef cc0_scratch0)).mpr rfl)

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' part of the resources. -/
abbrev EH : Emb UH (MT nD τ sig (HIx 1) (Elt F) ℕ UU ℕ) := embL

/-- A core's pieces before the call, and after. -/
abbrev inS (c : Fin (grid0.bound 0)) : sProp 𝕄 := bigSep Finset.univ fun j => iprop(tabS m d c j ∗ ∃ f, outS d c j f)
abbrev doneS (c : Fin (grid0.bound 0)) : sProp 𝕄 := bigSep Finset.univ fun j => iprop(tabS m d c j ∗ outS d c j (G m d))

/-- What the call hands each core, and what comes back. -/
def P : (K (F := F)).Pay (nD := nD) (Val := Elt F) (Name := ℕ) (U := UU) where
  st := fun q d c => match q with | 0 => inS m d c
  dn := fun q d c => match q with | 0 => doneS m d c
  go := fun _ _ _ _ => iprop(emp)
  td := fun _ _ _ _ => iprop(emp)
  x := fun _ _ => iprop(emp)

instance P_storable : (P (F := F) m).IsStorable where
  st q d c := match q with | 0 => by unfold P; infer_instance
  dn q d c := match q with | 0 => by unfold P; infer_instance
  go _ _ _ _ := by unfold P; infer_instance
  td _ _ _ _ := by unfold P; infer_instance

variable [FloatOps F]

/-! ## One core's run -/

/-- The body on a core: from its pieces, its ring and its semaphores at zero, to its pieces delivered. -/
theorem body₀ (hF : (K (F := F)).Facts) (c : Fin (grid0.bound 0)) (O : CellTallies nD τ sig (HIx 1)) (W : Waits sig (HIx 1)) (hO : ∀ g, O g none = 0) :
    iprop(levAts (K (F := F)).L (K (F := F)).lev ∗ emp ∗ inS m d c ∗ scopedBufs (th d c) ∗ scopedSems0 (th d c) ∗ owes (th d c) O W)
      ⊢ wp frame (wpE (defs₀ (F := F)) 𝒱₀ (th d c) none) Set.univ
          (cc0_copy_k (ci c) xW (Memref.isWhole_whole _) oW (Memref.isWhole_whole _) bW (Memref.isWhole_whole _) cc0_scratch1 cc0_scratch2)
          fun _ => iprop(doneS m d c ∗ scopedBufs (th d c) ∗ scopedSems0 (th d c)
            ∗ ∃ W', ⌜∀ p ∈ W', p ∈ W ∨ p.2 = none ∨ p.2 = some (0 : Fin 1)⌝ ∗ owes (th d c) O W') := by
  rw [(K (F := F)).scopedBufs_S hF d _, SparseCore.Cfg.scopedSems0_S (Val := Elt F) d _, sems_split, bufs_split, body_eq]
  iintro ⟨#Hlv, -, HP, ⟨⟨Hbuf, Hbufs⟩, Htiles⟩, ⟨⟨Hcells, Hsems⟩, HtileSems⟩, HO⟩
  ihave Hmw := ((K (F := F)).mayWaits_none (thr := th d c) hO) $$ Hlv
  ihave Hb := (buf_split d c) $$ Hbuf
  iapply (wp_steps m d c O _ sched start finish after_sched)
  isplitr; · iexact Hmw
  isplitl [HP Hb Hcells]
  · unfold Inv
    isplitl [HP]; · iexact HP
    iapply (sep_join Finset.univ (fun s => iprop(∃ f, bufS (F := F) d c s f)) (fun s => iprop(semVal (th d c, inC s) 0 ∗ semVal (th d c, outC s) 0)))
    isplitl [Hb] <;> iassumption
  isplitl [HO]; · iexists W; iexact HO
  iintro ⟨HI, %W', HO⟩
  have hI : Inv m d c finish ⊢ iprop(doneS m d c ∗ bigSep Finset.univ fun s => iprop((∃ f, bufS (F := F) d c s f) ∗ semVal (th d c, inC s) 0 ∗ semVal (th d c, outC s) 0)) :=
    Entails.of_eq rfl
  ihave HI' := hI $$ HI
  icases HI' with ⟨HP, HS⟩
  ihave HS' := (sep_split Finset.univ (fun s => iprop(∃ f, bufS (F := F) d c s f)) (fun s => iprop(semVal (th d c, inC s) 0 ∗ semVal (th d c, outC s) 0))) $$ HS
  icases HS' with ⟨Hb, Hcells⟩
  ihave Hbuf := (buf_join m d c) $$ Hb
  isplitl [HP]; · iexact HP
  isplitl [Hbuf Hbufs Htiles]
  · isplitl [Hbuf Hbufs]
    · isplitl [Hbuf] <;> iassumption
    iexact Htiles
  isplitl [Hcells Hsems HtileSems]
  · isplitl [Hcells Hsems]
    · isplitl [Hcells] <;> iassumption
    iexact HtileSems
  iexists W'; isplitr
  · ipureintro; intro p _
    rcases p.2 with _ | q
    · exact .inr (.inl rfl)
    · exact .inr (.inr (congrArg some (Subsingleton.elim q 0)))
  · iexact HO

theorem defs₀_scalar (c : Fin τ.nSC) :
    defs₀ (F := F) (.scScalar c) 0 ()
      = SparseCore.onCore hcore0 (fun c => cc0_copy_k (ci c) xW (Memref.isWhole_whole _) oW (Memref.isWhole_whole _)
          bW (Memref.isWhole_whole _) cc0_scratch1 cc0_scratch2) ⟨⟩ c := rfl

theorem defs₀_at (c : Fin (grid0.bound 0)) :
    defs₀ (F := F) (.scScalar (c.castLE hcore0)) 0 ()
      = cc0_copy_k (ci c) xW (Memref.isWhole_whole _) oW (Memref.isWhole_whole _) bW (Memref.isWhole_whole _) cc0_scratch1 cc0_scratch2 := by
  rw [defs₀_scalar]
  exact dif_pos c.isLt

/-- The body on a core, as the table of bodies gives it. -/
theorem body_at (c : Fin (grid0.bound 0)) (O : CellTallies nD τ sig (HIx 1)) (W : Waits sig (HIx 1)) (hO : ∀ g, O g none = 0) :
    iprop(levAts (K (F := F)).L (K (F := F)).lev ∗ emp ∗ inS m d c ∗ scopedBufs (th d c) ∗ scopedSems0 (th d c) ∗ owes (th d c) O W)
      ⊢ wp frame (wpE (defs₀ (F := F)) 𝒱₀ (th d c) none) Set.univ (defs₀ (F := F) (.scScalar (c.castLE hcore0)) 0 ())
          fun _ => iprop(doneS m d c ∗ scopedBufs (th d c) ∗ scopedSems0 (th d c)
            ∗ ∃ W', ⌜∀ p ∈ W', p ∈ W ∨ p.2 = none ∨ p.2 = some (0 : Fin 1)⌝ ∗ owes (th d c) O W') := by
  have h := body₀ m d facts c O W hO
  rw [← defs₀_at] at h
  exact h

/-- Each core's sequencer runs the body. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  exact body_at m d c O W hO

/-! ## The launch -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The TensorCore's part -/

/-- The argument the kernel does not read. -/
abbrev hLoc : Loc nD τ sig := (SparseCore.T d).loc main_arg0

/-- What is left at the end: both arguments at their launch contents, the result at `G`. -/
abbrev FIN (d : Dev nD) : sProp 𝕄 := iprop((hLoc d ↦{fullShare} m (hLoc d)) ∗ (xLoc d ↦{fullShare} m (xLoc d)) ∗ oLoc d ↦{fullShare} G m d)

theorem unscopedBufs_eq (W : (b : Ref sig .tc) → Buf (Elt F) ((d.tc : Thread nD τ).loc b)) :
    (unscopedBufs d W : sProp 𝕄) = iprop((hLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The table and the result, handed out: each core's pieces, and the rows no piece reads. -/
theorem hand_out :
    (iprop((xLoc d ↦{fullShare} m (xLoc d)) ∗ oLoc d ↦{fullShare} m (oLoc d)) : sProp 𝕄)
      ⊢ iprop((bigSep Finset.univ fun c : Fin (grid0.bound 0) => inS m d c) ∗ restS m d) := by
  iintro ⟨Hx, Ho⟩
  ihave Hx' := (pointsTo_split_subset (q := fullShare) (f := m (xLoc d)) (Finset.subset_univ (Finset.univ.biUnion tabK))).1 $$ Hx
  icases Hx' with ⟨Hx, Hr⟩
  isplitr [Hr]
  · ihave Hx' := (Entails.of_eq (tab_pieces m d)) $$ Hx
    ihave Ho' := (Entails.of_eq (out_pieces d _)) $$ Ho
    have piece (c : Fin (grid0.bound 0)) (j : Fin 64) :
        iprop(tabS m d c j ∗ outS d c j (m (oLoc d))) ⊢ (iprop(tabS m d c j ∗ ∃ f, outS d c j f) : sProp 𝕄) := by
      iintro ⟨Ht, Ho⟩
      isplitl [Ht]; · iexact Ht
      iexists (m (oLoc d)); iexact Ho
    have one (c : Fin (grid0.bound 0)) : iprop((bigSep Finset.univ fun j => tabS m d c j) ∗ bigSep Finset.univ fun j => outS d c j (m (oLoc d))) ⊢ inS m d c :=
      (sep_join _ _ _).trans (bigSep_mono fun j _ => piece c j)
    have all : (bigSep Finset.univ fun c : Fin (grid0.bound 0) => iprop((bigSep Finset.univ fun j => tabS m d c j) ∗ bigSep Finset.univ fun j => outS d c j (m (oLoc d))))
        ⊢ bigSep Finset.univ fun c : Fin (grid0.bound 0) => inS m d c := bigSep_mono fun c _ => one c
    iapply all
    iapply (sep_join Finset.univ (fun c : Fin (grid0.bound 0) => bigSep Finset.univ fun j => tabS m d c j)
      (fun c : Fin (grid0.bound 0) => bigSep Finset.univ fun j => outS d c j (m (oLoc d))))
    isplitl [Hx'] <;> iassumption
  · iexact Hr

/-- The pieces that came back, put together. -/
theorem hand_back :
    (iprop((bigSep Finset.univ fun c : Fin (grid0.bound 0) => doneS m d c) ∗ restS m d) : sProp 𝕄)
      ⊢ iprop((xLoc d ↦{fullShare} m (xLoc d)) ∗ oLoc d ↦{fullShare} G m d) := by
  iintro ⟨HD, Hr⟩
  have all : (bigSep Finset.univ fun c : Fin (grid0.bound 0) => doneS m d c)
      ⊢ iprop((bigSep Finset.univ fun c : Fin (grid0.bound 0) => bigSep Finset.univ fun j => tabS m d c j)
        ∗ bigSep Finset.univ fun c : Fin (grid0.bound 0) => bigSep Finset.univ fun j => outS d c j (G m d)) :=
    (bigSep_mono fun c _ => sep_split _ _ _).trans (sep_split _ _ _)
  ihave HD' := all $$ HD
  icases HD' with ⟨Hx, Ho⟩
  isplitr [Ho]
  · iapply (pointsTo_split_subset (q := fullShare) (f := m (xLoc d)) (Finset.subset_univ (Finset.univ.biUnion tabK))).2
    isplitl [Hx]
    · iapply (Entails.of_eq (tab_pieces m d).symm); iexact Hx
    · iexact Hr
  · iapply (Entails.of_eq (out_pieces d (G m d)).symm); iexact Ho

/-- The main program: the call, from the pieces to the pieces. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hh, Hx, Ho⟩, Hts, -⟩, -⟩
  ihave HI := (hand_out m d) $$ [Hx Ho]
  · isplitl [Hx] <;> iassumption
  icases HI with ⟨HI, Hr⟩
  iapply ((K (F := F)).wp_run (D (F := F)) 𝒱 (EH := EH) (P := P m) κ d 0) $$ [Hst HI Hr Hb Hh Hts]
  isplitr; · iexact Hctx
  isplitl [Hst]; · iexact Hst
  isplitl [HI]; · iexact HI
  iintro ⟨Hst, Hdn⟩
  ihave HX := (hand_back m d) $$ [Hdn Hr]
  · isplitl [Hdn]
    · iexact Hdn
    · iexact Hr
  icases HX with ⟨Hx, Ho⟩
  imodintro
  isplitl [Hst]; · iexact Hst
  isplitl [Hh Hx Ho]
  · isplitl [Hh]; · iexact Hh
    isplitl [Hx] <;> iassumption
  isplitl [Hb] <;> iassumption

def fq (d : Dev nD) (s' : Phys nD τ sig (Elt F)) : Prop :=
  s'.mem.mem (hLoc d) = m (hLoc d) ∧ s'.mem.mem (xLoc d) = m (xLoc d) ∧ s'.mem.mem (oLoc d) = G m d

theorem hfin (d : Dev nD) (s' : Phys nD τ sig (Elt F)) : iprop(FIN m d ∗ SI s') ⊢ (⌜fq m d s'⌝ : sProp 𝕄) := by
  have one (ℓ : Loc nD τ sig) (f : Buf (Elt F) ℓ) : iprop(SI s' ∗ ℓ ↦{fullShare} f) ⊢ (⌜s'.mem.mem ℓ = f⌝ : sProp 𝕄) := by
    iintro H
    ihave H := (SI_pointsTo_agree (st := s') (ℓ := ℓ) (I := Finset.univ) (q := fullShare) (f := f)) $$ H
    icases H with %h
    ipureintro; exact funext fun i => h i (Finset.mem_univ i)
  unfold fq
  iintro ⟨⟨Hh, Hx, Ho⟩, HSI⟩
  ihave H := (persistent_entails_right (one (hLoc d) (m (hLoc d)))) $$ [HSI Hh]
  · isplitl [HSI] <;> iassumption
  icases H with ⟨%h₁, HSI, -⟩
  ihave H := (persistent_entails_right (one (xLoc d) (m (xLoc d)))) $$ [HSI Hx]
  · isplitl [HSI] <;> iassumption
  icases H with ⟨%h₂, HSI, -⟩
  ihave H := (one (oLoc d) (G m d)) $$ [HSI Ho]
  · isplitl [HSI] <;> iassumption
  icases H with %h₃
  ipureintro; exact ⟨h₁, h₂, h₃⟩

/-! ## The program's run -/

def QC : PUnit × MemSt nD τ sig (Elt F) → Prop := fun r =>
  (∀ d : Dev nD, r.2.mem (hLoc d) = m (hLoc d) ∧ r.2.mem (xLoc d) = m (xLoc d) ∧ r.2.mem (oLoc d) = G m d) ∧ r.2.sem = fun _ => 0

/-- Every run of the program ends, with both arguments unchanged, the result at `G` and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Ring

end
-- ==== Proof.RefValue.lean ====
/-
  The reference's value. The reference gathers the table's rows at the positions 0, 1, …, 4095: each position is a
  non-negative word below 8192, so it is not wrapped, the range mask is set on every row, the gather's clamp is idle, and
  row `r` of the result is row `r` of the table.
-/
module

public import proofs.«01_k».proof.Proof.Gen.ReferenceIdeal.Run
public import Idealize.ShloMosaic.Lib.ValueIdx

@[expose] public section

noncomputable section

namespace Cert.Proof.RefValue

open Cert.ReferenceIdeal Cert.ReferenceIdeal.Gen Idealize.ShloMosaic Idealize.ShloMosaic.TcCoe Idealize.SL.Sem

variable {F : FTy → Type} [FloatOps F]

/-- The word of a position below 4096, read as a signed integer. -/
theorem toInt_pos (n : Nat) (h : n < 4096) : (BitVec.ofNat 32 n).toInt = n := by
  have hn : (BitVec.ofNat 32 n).toNat = n := by rw [BitVec.toNat_ofNat]; exact Nat.mod_eq_of_lt (by omega)
  rw [BitVec.toInt_eq_toNat_of_lt (by rw [hn]; omega), hn]

/-- The positions, as the reference counts them: `0 + 1 · r` at row `r`. -/
def pos : IVec S4096 32 :=
  addi (broadcastInDim S4096 ![] bcast_S_S4096 (constantI S_ 32 0#32)) (muli (broadcastInDim S4096 ![] bcast_S_S4096 (constantI S_ 32 1#32)) (iotaInDim S4096 32 0))

/-- The positions with the negative ones wrapped, one to a row. -/
def rows : IVec S4096x1 32 :=
  broadcastInDim S4096x1 ![0] bcast_S4096_S4096x1_0 (select (cmpi .slt pos (broadcastInDim S4096 ![] bcast_S_S4096 (constantI S_ 32 0#32)))
    (addi pos (broadcastInDim S4096 ![] bcast_S_S4096 (constantI S_ 32 8192#32))) pos)

/-- Whether each position names a row of the table. -/
def inTable : IVec S4096x1 1 :=
  andi (cmpi .sge rows (broadcastInDim S4096x1 ![] bcast_S_S4096x1 (constantI S_ 32 0#32)))
    (cmpi .sle rows (broadcastInDim S4096x1 ![0, 1] bcast_S1x1_S4096x1_0_1 (broadcastInDim S1x1 ![1] bcast_S1_S1x1_1 (constantI S1 32 8191#32))))

/-- The reference's result on the table `x`. -/
def value (x : FVec F S8192x1024 .f32) : FVec F S1x4096x1024 .f32 :=
  broadcastInDim S1x4096x1024 ![1, 2] bcast_S4096x1024_S1x4096x1024_1_2
    (select (broadcastInDim S4096x1024 ![0] bcast_S4096_S4096x1024_0 (Host.reduce IntOp.andi inTable (constantI S_ 1 1#1) reducesTo_S4096x1_S4096_d1 h_S_))
      (Host.gather gather_S8192x1024_S4096x1_S4096x1024_1_0_n_n_0_1_11024 x rows)
      (broadcastInDim S4096x1024 ![] bcast_S_S4096x1024 (constant S_ .f32 0x7FC00000#32)))

theorem pos_apply (i : S4096.Idx) : pos i = BitVec.ofNat 32 (i 0).val := by
  show (0#32) + (1#32) * BitVec.ofNat 32 (i 0).val = _
  rw [BitVec.one_mul, BitVec.zero_add]

theorem rows_apply (i : S4096x1.Idx) : rows i = BitVec.ofNat 32 (i 0).val := by
  have h : (i 0).val < 4096 := (i 0).isLt
  show Scalar.select (BitVec.ofBool ((pos fun a => _).slt 0#32)) _ (pos fun a => _) = _
  rw [pos_apply]
  have hs : (BitVec.ofNat 32 (i 0).val).slt 0#32 = false := by
    simp only [BitVec.slt, toInt_pos _ h, BitVec.toInt_zero]; exact decide_eq_false (by omega)
  exact if_neg (by erw [hs]; decide)

theorem inTable_apply (i : S4096x1.Idx) : inTable i = 1#1 := by
  have h : (i 0).val < 4096 := (i 0).isLt
  show BitVec.ofBool ((0#32).sle (rows i)) &&& BitVec.ofBool ((rows i).sle 8191#32) = 1#1
  rw [rows_apply]
  have h1 : (0#32).sle (BitVec.ofNat 32 (i 0).val) = true := by
    simp only [BitVec.sle, toInt_pos _ h, BitVec.toInt_zero]; exact decide_eq_true (by omega)
  have h2 : (BitVec.ofNat 32 (i 0).val).sle 8191#32 = true := by
    simp only [BitVec.sle, toInt_pos _ h, show (8191#32).toInt = 8191 from by decide]; exact decide_eq_true (by omega)
  rw [h1, h2]; rfl

/-- A conjunction of set bits is set. -/
theorem foldl_and {α : Type} (l : List α) (f : α → BitVec 1) (hf : ∀ a, f a = 1#1) : l.foldl (fun r n => IntOp.andi r (f n)) 1#1 = 1#1 := by
  induction l with
  | nil => rfl
  | cons a l ih => rw [List.foldl_cons, hf]; exact ih

theorem mask_apply (j : S4096.Idx) : Host.reduce IntOp.andi inTable (constantI S_ 1 1#1) reducesTo_S4096x1_S4096_d1 h_S_ j = 1#1 :=
  foldl_and _ _ fun _ => inTable_apply _

/-- The gather's element `(r, k)`: the start word of row `r`, clamped into the table, and column `k`. -/
theorem gather_apply {α : Type} (x : S8192x1024.Idx → α) (idx : IVec S4096x1 32) (y : S4096x1024.Idx) :
    Host.gather gather_S8192x1024_S4096x1_S4096x1024_1_0_n_n_0_1_11024 x idx y
      = x (ValueIdx.ix2 (n0 := 8192) (n1 := 1024) ⟨min (idx (ValueIdx.ix2 (n0 := 4096) (n1 := 1) ⟨(y 0).val, (y 0).isLt⟩ 0)).toInt.toNat 8191, by omega⟩
          ⟨(y 1).val, (y 1).isLt⟩) := by
  unfold Host.gather
  congr 1
  funext a
  refine Fin.ext ?_
  show gather_S8192x1024_S4096x1_S4096x1024_1_0_n_n_0_1_11024.start y idx a + gather_S8192x1024_S4096x1_S4096x1024_1_0_n_n_0_1_11024.batchCoord y a
    + gather_S8192x1024_S4096x1_S4096x1024_1_0_n_n_0_1_11024.offCoord y a = _
  rw [GatherDims.batchCoord_eq_zero _ _ _ List.not_mem_nil, Nat.add_zero]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S8192x1024_S4096x1_S4096x1024_1_0_n_n_0_1_11024.startIndexMap from List.mem_singleton.mpr rfl)]
    have hsi : gather_S8192x1024_S4096x1_S4096x1024_1_0_n_n_0_1_11024.siIdx y
        ⟨List.idxOf (0 : Fin 2) gather_S8192x1024_S4096x1_S4096x1024_1_0_n_n_0_1_11024.startIndexMap, List.idxOf_lt_length_iff.2 (List.mem_singleton.mpr rfl)⟩
        = ValueIdx.ix2 (n0 := 4096) (n1 := 1) ⟨(y 0).val, (y 0).isLt⟩ 0 := by
      funext b; refine Fin.ext ?_
      match b with
      | ⟨0, _⟩ => rfl
      | ⟨1, _⟩ => rfl
    rw [hsi]
    rfl
  · unfold GatherDims.start
    rw [dif_neg (show ¬ (1 : Fin 2) ∈ gather_S8192x1024_S4096x1_S4096x1024_1_0_n_n_0_1_11024.startIndexMap from
      fun h => absurd (List.mem_singleton.mp h) (by decide)), Nat.zero_add]
    rfl

/-- Row `r` of the reference's result is row `r` of the table. -/
theorem value_apply (x : FVec F S8192x1024 .f32) (k : S1x4096x1024.Idx) :
    value x k = x (ValueIdx.ix2 (n0 := 8192) (n1 := 1024) ⟨(k 1).val, Nat.lt_trans (k 1).isLt (show 4096 < 8192 by decide)⟩ (k 2)) := by
  have h : (k 1).val < 4096 := (k 1).isLt
  refine (if_pos (mask_apply _)).trans ((gather_apply x rows _).trans (congrArg x ?_))
  funext a; refine Fin.ext ?_
  match a with
  | ⟨0, _⟩ =>
    refine (congrArg (fun w : BitVec 32 => min w.toInt.toNat 8191) (rows_apply _)).trans ?_
    show min (BitVec.ofNat 32 (k 1).val).toInt.toNat 8191 = (k 1).val
    rw [toInt_pos _ h]; omega
  | ⟨1, _⟩ => rfl

/-- Every run of the reference ends with the result at `value` of the table and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = value (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.Proof.RefValue

end
-- ==== Proof.lean ====
/-
  The certificate. The kernel's run (Proof/Launch.lean) and the reference's value (Proof/RefValue.lean) hold over any
  float values, so each program's claims are read off one theorem, at the ideal values and at the machine's words: the
  programs at the words are the same programs, the conversions being none.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- The kernel's frame at the machine's words. -/
theorem frame_kernel : Cert.quiescent_Kernel := fun m ρ _ =>
  (θ_run Cert.KernelIdeal.defs _ _).mono (fun _ h => ⟨fun c => ⟨(h.1 c).1, (h.1 c).2.1⟩, h.2⟩) (Ring.run_main (F := Bits) m ρ)

/-- The kernel's frame at the ideal values. -/
theorem frame_kernelIdeal : Cert.quiescent_KernelIdeal := fun m ρ _ =>
  (θ_run Cert.KernelIdeal.defs _ _).mono (fun _ h => ⟨fun c => ⟨(h.1 c).1, (h.1 c).2.1⟩, h.2⟩) (Ring.run_main (F := Ideal) m ρ)

/-- The reference's frame at the ideal values; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (RefValue.run_value (F := Ideal) m ρ)

/-- The reference's frame at the machine's words. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- At the ideal values the kernel and the reference both end with row `r` of the table in row `r` of the result. -/
theorem algebraic : Cert.algebraic_KernelIdeal_ReferenceIdeal := by
  intro m ρ m' ρ' _ hagree
  refine ⟨fun c => Ring.G m c,
    (θ_run Cert.KernelIdeal.defs _ _).mono (fun _ h c => ⟨(h.1 c).2.2, (h.1 c).1, (h.1 c).2.1⟩) (Ring.run_main (F := Ideal) m ρ),
    (θ_run Cert.ReferenceIdeal.defs _ _).mono (fun _ h c => ⟨(h c).1.trans ?_, (h c).2⟩) (RefValue.run_value (F := Ideal) m' ρ')⟩
  rw [(hagree c).2]
  exact funext fun k => RefValue.value_apply (F := Ideal) _ k

/-- So they do at the machine's words. -/
theorem bitexact : Cert.bitexact_Kernel_Reference := by
  intro m ρ m' ρ' _ hagree
  refine ⟨fun c => Ring.G (F := Bits) m c,
    (θ_run Cert.KernelIdeal.defs _ _).mono (fun _ h c => ⟨(h.1 c).2.2, (h.1 c).1, (h.1 c).2.1⟩) (Ring.run_main (F := Bits) m ρ),
    (θ_run Cert.Reference.defs _ _).mono (fun _ h c => ⟨(h c).1.trans ?_, (h c).2⟩) (Cert.Reference.Value.run (F := Bits) m' ρ')⟩
  rw [(hagree c).2]
  exact funext fun k => RefValue.value_apply (F := Bits) _ k

theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
